-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x4096 : Shape := ⟨2, ![2048, 4096]⟩
abbrev S32000x4096 : Shape := ⟨2, ![32000, 4096]⟩
abbrev S32000 : Shape := ⟨1, ![32000]⟩
abbrev S1x32000 : Shape := ⟨2, ![1, 32000]⟩
abbrev S2048x32000 : Shape := ⟨2, ![2048, 32000]⟩
abbrev S256x4096 : Shape := ⟨2, ![256, 4096]⟩
abbrev S1x256 : Shape := ⟨2, ![1, 256]⟩
abbrev S2048x256 : Shape := ⟨2, ![2048, 256]⟩
abbrev S512x4096 : Shape := ⟨2, ![512, 4096]⟩
abbrev S512x256 : Shape := ⟨2, ![512, 256]⟩

abbrev nBuf : Space → Nat
  | .hbm => 5
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S32000x4096, .f32⟩
  | .hbm, ⟨2, _⟩ => ⟨S32000, .f32⟩
  | .hbm, ⟨3, _⟩ => ⟨S1x32000, .f32⟩
  | .hbm, ⟨4, _⟩ => ⟨S2048x32000, .f32⟩
  | .local _ .vmem, ⟨0, _⟩ => ⟨S2048x4096, .f32⟩
  | .local _ .vmem, ⟨1, _⟩ => ⟨S256x4096, .f32⟩
  | .local _ .vmem, ⟨2, _⟩ => ⟨S256x4096, .f32⟩
  | .local _ .vmem, ⟨3, _⟩ => ⟨S1x256, .f32⟩
  | .local _ .vmem, ⟨4, _⟩ => ⟨S1x256, .f32⟩
  | .local _ .vmem, ⟨5, _⟩ => ⟨S2048x256, .f32⟩
  | .local _ .vmem, ⟨6, _⟩ => ⟨S2048x256, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2048x4096 : Shape := ⟨2, ![2048, 4096]⟩
abbrev S32000x4096 : Shape := ⟨2, ![32000, 4096]⟩
abbrev S32000 : Shape := ⟨1, ![32000]⟩
abbrev S4096x32000 : Shape := ⟨2, ![4096, 32000]⟩
abbrev S2048x32000 : Shape := ⟨2, ![2048, 32000]⟩
abbrev S1x32000 : Shape := ⟨2, ![1, 32000]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S32000x4096, .f32⟩
  | .hbm, ⟨2, _⟩ => ⟨S32000, .f32⟩
  | .hbm, ⟨3, _⟩ => ⟨S4096x32000, .f32⟩
  | .hbm, ⟨4, _⟩ => ⟨S2048x32000, .f32⟩
  | .hbm, ⟨5, _⟩ => ⟨S1x32000, .f32⟩
  | .hbm, ⟨6, _⟩ => ⟨S2048x32000, .f32⟩
  | .hbm, ⟨7, _⟩ => ⟨S2048x32000, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Reference.lean ====
/-
  Hand-written. The linear layer as a formula of its entries, and the reference program's result equal to it.
-/
module

public import proofs.«01_k».proof.Defs
public import proofs.«01_k».proof.Proof.Gen.ReferenceIdeal.Run
public import Idealize.ShloMosaic.Lib.Pointwise

@[expose] public section

noncomputable section

namespace Cert.Proof.Linear

open Idealize.ShloMosaic
open scoped BigOperators

/-- The logit of token `r` and vocabulary entry `v`: the dot product of row `r` of `x` with row `v` of `w`, plus the bias
    of `v`. -/
def logit (x : FVec Ideal ⟨2, ![2048, 4096]⟩ .f32) (w : FVec Ideal ⟨2, ![32000, 4096]⟩ .f32)
    (b : FVec Ideal ⟨1, ![32000]⟩ .f32) (r : Fin 2048) (v : Fin 32000) : EReal :=
  (∑ k : Fin 4096, x (ix2 r k) * w (ix2 v k)) + b (ix1 v)

/-- The array of all logits. -/
def logits (x : FVec Ideal ⟨2, ![2048, 4096]⟩ .f32) (w : FVec Ideal ⟨2, ![32000, 4096]⟩ .f32)
    (b : FVec Ideal ⟨1, ![32000]⟩ .f32) : FVec Ideal ⟨2, ![2048, 32000]⟩ .f32 :=
  fun i => logit x w b (i 0) (i 1)

open Cert.ReferenceIdeal Cert.ReferenceIdeal.Gen in
/-- The reference's composed term (a product with the transposed weights, then the bias broadcast over the rows and added)
    is the array of logits. -/
theorem reference_eq (x : FVec Ideal ⟨2, ![2048, 4096]⟩ .f32) (w : FVec Ideal ⟨2, ![32000, 4096]⟩ .f32)
    (b : FVec Ideal ⟨1, ![32000]⟩ .f32) :
    addf (Host.dotGeneral dot_S2048x4096_S4096x32000_S2048x32000_1_0_0_1_n_n none x
        (transpose S4096x32000 [1, 0] w transposes_S32000x4096_S4096x32000_1_0))
      (broadcastInDim S2048x32000 ![0, 1] bcast_S1x32000_S2048x32000_0_1
        (broadcastInDim S1x32000 ![1] bcast_S32000_S1x32000_1 b)) = logits x w b := by
  funext i
  idx_vars i
  pointwise [logits, logit]

end Cert.Proof.Linear

end
-- ==== Proof.Block.lean ====
/-
  Hand-written. What one grid point computes, over the exact arithmetic: four stores of 512 rows each leave, in the staging
  buffer of the result, the product of all rows of `x` with the staged rows of the weights, plus the staged bias.
-/
module

public import proofs.«01_k».proof.Defs
public import proofs.«01_k».proof.Proof.Gen.KernelIdeal.Frame
public import Idealize.ShloMosaic.Lib.Pipeline.ValueKit

@[expose] public section

set_option maxRecDepth 16384

noncomputable section

namespace Cert.Proof.Block

open Idealize.ShloMosaic Cert.KernelIdeal Cert.KernelIdeal.Gen
open scoped BigOperators

/-- The block of logits that belongs to 256 rows `w` of the weights and their biases `b`. -/
def tile (x : Vec Ideal S2048x4096 .f32) (w : Vec Ideal S256x4096 .f32) (b : Vec Ideal S1x256 .f32) :
    Vec Ideal S2048x256 .f32 :=
  fun y => (∑ k : Fin 4096, x (ix2 (y 0) k) * w (ix2 (y 1) k)) + b (ix2 0 (y 1))

/-- The payload of each store, at an entry: one dot product of a row of `x` with a row of the weights, plus the bias. -/
theorem pay_apply (x : Vec Ideal S512x4096 .f32) (w : Vec Ideal S256x4096 .f32) (b : Vec Ideal S1x256 .f32)
    (j : S512x256.Idx) :
    k0_pay1 x w b j = (∑ k : Fin 4096, x (ix2 (j 0) k) * w (ix2 (j 1) k)) + b (ix2 0 (j 1)) := by
  pointwise [k0_pay1]

/-- A store whose rows start at `o`, with the payload of the rows of `x` from `o` on, stores the entries of the tile that
    its rectangle names. -/
theorem piece_eq (x : Vec Ideal S2048x4096 .f32) (w : Vec Ideal S256x4096 .f32) (b : Vec Ideal S1x256 .f32) (o : Nat)
    (hx : ∀ a, (![o, 0] : Fin 2 → Nat) a + S512x4096.size a ≤ S2048x4096.size a)
    (ho : ∀ a, (![o, 0] : Fin 2 → Nat) a + S512x256.size a ≤ S2048x256.size a)
    (j : S512x256.Idx) :
    k0_pay1 (View.ld x (Rect.unit (s := S2048x4096) ![o, 0] S512x4096.size hx)) (View.ld w r0_1) (View.ld b r0_2) j
      = tile x w b ((Rect.unit (s := S2048x256) ![o, 0] S512x256.size ho).emb j) := by
  rw [pay_apply]
  pointwise [tile]
  have e0 : (Rect.unit (s := S2048x256) ![o, 0] S512x256.size ho).emb j 0 = ⟨o + (j 0).val, by
      have := ho 0; have := (j 0).isLt; simp at *; omega⟩ := Fin.ext (congrArg (o + ·) (Nat.one_mul _))
  have e1 : (Rect.unit (s := S2048x256) ![o, 0] S512x256.size ho).emb j 1 = j 1 :=
    Fin.ext ((congrArg (0 + ·) (Nat.one_mul _)).trans (Nat.zero_add _))
  rw [e0, e1]
  rfl

/-- The staging buffer after the body is the tile. -/
theorem out_eq (x : Vec Ideal S2048x4096 .f32) (w : Vec Ideal S256x4096 .f32) (b : Vec Ideal S1x256 .f32) :
    out0_3 x w b = tile x w b := by
  funext y
  unfold out0_3
  refine View.canon_apply_of_pieces (tile x w b) _ (fun p hp => ?_) y (cover0_3 _ _ _ _ y)
  simp only [List.mem_cons, List.not_mem_nil, or_false] at hp
  rcases hp with rfl | rfl | rfl | rfl
  · exact piece_eq x w b 1536 _ inb_S2048x256_S512x256_1536_0
  · exact piece_eq x w b 1024 _ inb_S2048x256_S512x256_1024_0
  · exact piece_eq x w b 512 _ inb_S2048x256_S512x256_512_0
  · exact piece_eq x w b 0 _ inb_S2048x256_S512x256_0_0

end Cert.Proof.Block

end
-- ==== Proof.Array.lean ====
/-
  Hand-written. The kernel's result array after the run, over the exact arithmetic: each of the 125 grid points writes back
  256 columns of the array of logits, and together they write all of it.
-/
module

public import proofs.«01_k».proof.Defs
public import proofs.«01_k».proof.Proof.Gen.KernelIdeal.Value
public import proofs.«01_k».proof.Proof.Block
public import proofs.«01_k».proof.Proof.Reference

@[expose] public section

set_option maxRecDepth 16384

noncomputable section

namespace Cert.Proof.Array

open Idealize.ShloMosaic Idealize.ShloMosaic.TcCoe Idealize.SL.Sem
open Cert.KernelIdeal Cert.KernelIdeal.Gen Cert.Proof.Linear

variable (m : (ℓ : Loc nD τ sig) → Buf (Elt Ideal) ℓ) (ρ : Dev nD → PrngReg)

/-- The array of logits of device `c`'s three arguments. -/
abbrev wanted (c : Dev nD) : Buf (Elt Ideal) ((c : Thread nD τ).loc main_v1) :=
  logits (m ((c : Thread nD τ).loc main_arg0)) (m ((c : Thread nD τ).loc main_arg1)) (m ((c : Thread nD τ).loc main_arg2))

/-- The index maps at point `t`: all of `x`, block `t` of the rows of the weights, block `t` of the biases and of the
    result's columns. -/
theorem idx : ∀ t : Fin cfg0.N, win0_0.index t = ![0, 0] ∧ win0_1.index t = ![t.val, 0] ∧ win0_2.index t = ![0, t.val]
    ∧ win0_3.index t = ![0, t.val] :=
  (by decide +kernel : ∀ t : Fin grid0.N, _)

/-- The result array ends holding the logits. -/
theorem final_eq (c : Dev nD) : (dats m 0 c).arrAt 3 cfg0.N = wanted m c := by
  refine (dats m 0 c).arrAt_eq_of_covers 3 _ (by decide +kernel) fun t hf y => ?_
  blk_simp
  rw [after0_3, Block.out_eq]
  pointwise [Block.tile, logits, logit]
  blk_point [iblk, V, idx t]

/-- The kernel's run: the result array ends holding the logits, and the arguments end unchanged. -/
theorem run : θ_run defs (onTc (τ := τ) (main (F := Ideal))) ⟨m, fun _ => 0, ρ⟩ fun r => ∀ c : Dev nD,
      r.2.mem ((c : Thread nD τ).loc main_v1) = wanted m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_eq m c), (h c).2⟩) (Value.run_blocks m ρ)

end Cert.Proof.Array

end
-- ==== Proof.lean ====
/-
  Hand-written. The proof of `Cert.Claim`: the frames of the kernel (at the bits and over the exact arithmetic) and of the
  reference, and the equality of the two programs' results over the extended reals. Both result arrays are the array of
  logits, `x` times the transposed weights plus the bias: for the kernel by Proof/Array.lean, for the reference by
  Proof/Reference.lean.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Reference
public import proofs.«01_k».proof.Proof.Array
public import Idealize.ShloMosaic.Lib.Quiescent

@[expose] public section

noncomputable section

namespace Cert.Proof

open Idealize.ShloMosaic Idealize.SL.Sem

/-- The kernel terminates without fault, keeps its arguments and ends with every counter at zero. -/
theorem frame_kernel : Cert.quiescent_Kernel (hKernel := Cert.Kernel.Gen.facts) :=
  fun m g _ => Cert.Kernel.Gen.frame m g

/-- The same of the kernel over the exact arithmetic. -/
theorem frame_kernelIdeal : Cert.quiescent_KernelIdeal (hKernelIdeal := Cert.KernelIdeal.Gen.facts) :=
  fun m g _ => Cert.KernelIdeal.Gen.frame m g

/-- The same of the reference, which has no counters. -/
theorem frame_referenceIdeal : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run (F := Ideal) m g)

/-- From equal arguments the kernel and the reference end with equal results: the logits. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Array.wanted m c, Array.run m g, ?_⟩
  refine (θ_run Cert.ReferenceIdeal.defs _ _).mono (fun r h c => ⟨(h c).1.trans ?_, (h c).2⟩)
    (Cert.ReferenceIdeal.Value.run (F := Ideal) m' g')
  rw [(hargs c).1, (hargs c).2.1, (hargs c).2.2]
  exact Linear.reference_eq _ _ _

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
